-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_shots" .f32 0x3E4CCCCD#32 ((5⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x5x64x640 : Shape := ⟨4, ![1, 5, 64, 640]⟩
abbrev S1x15x64x640 : Shape := ⟨4, ![1, 15, 64, 640]⟩
abbrev S5x64x640 : Shape := ⟨3, ![5, 64, 640]⟩
abbrev S960x640 : Shape := ⟨2, ![960, 640]⟩
abbrev S960x64 : Shape := ⟨2, ![960, 64]⟩
abbrev S480x640 : Shape := ⟨2, ![480, 640]⟩
abbrev S480x64 : Shape := ⟨2, ![480, 64]⟩
abbrev S64x640 : Shape := ⟨2, ![64, 640]⟩
abbrev S480x128 : Shape := ⟨2, ![480, 128]⟩
abbrev S480 : Shape := ⟨1, ![480]⟩
abbrev S480x1 : Shape := ⟨2, ![480, 1]⟩
abbrev S64 : Shape := ⟨1, ![64]⟩
abbrev S1x64 : Shape := ⟨2, ![1, 64]⟩

abbrev nBuf : Space → Nat
  | .hbm => 5
  | .vmem => 5
  | .smem => 0
  | _ => 0

abbrev bufTy : (tb : Table) → Fin (tcTables nBuf tb) → BufTy
  | .hbm, ⟨0, _⟩ => ⟨S1x5x64x640, .f32⟩
  | .hbm, ⟨1, _⟩ => ⟨S1x15x64x640, .f32⟩
  | .hbm, ⟨2, _⟩ => ⟨S5x64x640, .f32⟩
  | .hbm, ⟨3, _⟩ => ⟨S960x640, .f32⟩
  | .hbm, ⟨4, _⟩ => ⟨S960x64, .f32⟩
  | .local _ .vmem, ⟨0, _⟩ => ⟨S5x64x640, .f32⟩
  | .local _ .vmem, ⟨1, _⟩ => ⟨S480x640, .f32⟩
  | .local _ .vmem, ⟨2, _⟩ => ⟨S480x640, .f32⟩
  | .local _ .vmem, ⟨3, _⟩ => ⟨S480x64, .f32⟩
  | .local _ .vmem, ⟨4, _⟩ => ⟨S480x64, .f32⟩
  | _, _ => ⟨S1x5x64x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S5x64x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S480x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S480x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "inv_shots" => some ((5⁻¹ : ℝ) : EReal)
  | _ => none
-- ==== ReferenceIdeal.lean ====
abbrev S1x5x64x640 : Shape := ⟨4, ![1, 5, 64, 640]⟩
abbrev S1x15x64x640 : Shape := ⟨4, ![1, 15, 64, 640]⟩
abbrev S_ : Shape := ⟨0, ![]⟩
abbrev S1x64x640 : Shape := ⟨3, ![1, 64, 640]⟩
abbrev S960x640 : Shape := ⟨2, ![960, 640]⟩
abbrev S960x1x640 : Shape := ⟨3, ![960, 1, 640]⟩
abbrev S1x1x64x640 : Shape := ⟨4, ![1, 1, 64, 640]⟩
abbrev S1x960x64x640 : Shape := ⟨4, ![1, 960, 64, 640]⟩
abbrev S960x64x640 : Shape := ⟨3, ![960, 64, 640]⟩
abbrev S960x64 : Shape := ⟨2, ![960, 64]⟩

abbrev nBuf : Space → Nat
  | .hbm => 21
  | .vmem => 0
  | .smem => 0
  | _ => 0

abbrev bufTy : (tb : Table) → Fin (tcTables nBuf tb) → BufTy
  | .hbm, ⟨0, _⟩ => ⟨S1x5x64x640, .f32⟩
  | .hbm, ⟨1, _⟩ => ⟨S1x15x64x640, .f32⟩
  | .hbm, ⟨2, _⟩ => ⟨S_, .f32⟩
  | .hbm, ⟨3, _⟩ => ⟨S1x64x640, .f32⟩
  | .hbm, ⟨4, _⟩ => ⟨S_, .f32⟩
  | .hbm, ⟨5, _⟩ => ⟨S1x64x640, .f32⟩
  | .hbm, ⟨6, _⟩ => ⟨S1x64x640, .f32⟩
  | .hbm, ⟨7, _⟩ => ⟨S960x640, .f32⟩
  | .hbm, ⟨8, _⟩ => ⟨S960x1x640, .f32⟩
  | .hbm, ⟨9, _⟩ => ⟨S1x1x64x640, .f32⟩
  | .hbm, ⟨10, _⟩ => ⟨S1x960x64x640, .f32⟩
  | .hbm, ⟨11, _⟩ => ⟨S960x64x640, .f32⟩
  | .hbm, ⟨12, _⟩ => ⟨S960x64x640, .f32⟩
  | .hbm, ⟨13, _⟩ => ⟨S960x64x640, .f32⟩
  | .hbm, ⟨14, _⟩ => ⟨S960x64x640, .f32⟩
  | .hbm, ⟨15, _⟩ => ⟨S_, .f32⟩
  | .hbm, ⟨16, _⟩ => ⟨S960x64, .f32⟩
  | .hbm, ⟨17, _⟩ => ⟨S960x64, .f32⟩
  | .hbm, ⟨18, _⟩ => ⟨S_, .f32⟩
  | .hbm, ⟨19, _⟩ => ⟨S960x64, .f32⟩
  | .hbm, ⟨20, _⟩ => ⟨S960x64, .f32⟩
  | _, _ => ⟨S1x5x64x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Distance.lean ====
/- The mathematics of the certificate, with no program in it: over the extended reals, a squared distance written out as
   a difference of sums is the expanded form that the kernel computes, whatever the entries, infinities included. -/
module

public import Idealize.ShloMosaic.PureOps.Ideal

@[expose] public section

noncomputable section

namespace Cert.Distance

open Idealize.ShloMosaic

/-- An extended real times itself is not negative. -/
theorem mul_self_nonneg' (x : EReal) : 0 ≤ x * x := by
  induction x with
  | bot => simp
  | top => simp
  | coe r => rw [← EReal.coe_mul]; exact_mod_cast mul_self_nonneg r

/-- An infinite extended real times itself is `⊤`. -/
theorem mul_self_of_infinite {x : EReal} (h : x = ⊤ ∨ x = ⊥) : x * x = ⊤ := by
  rcases h with rfl | rfl <;> simp

/-- A sum of squares with an infinite term is `⊤`. -/
theorem sum_sq_top {n : ℕ} (f : Fin n → EReal) {k : Fin n} (h : f k = ⊤ ∨ f k = ⊥) : ∑ i, f i * f i = ⊤ := by
  refine top_le_iff.mp ?_
  rw [← mul_self_of_infinite h]
  exact Finset.single_le_sum (f := fun i => f i * f i) (fun i _ => mul_self_nonneg' (f i)) (Finset.mem_univ k)

/-- A difference is infinite as soon as one of its terms is. -/
theorem sub_infinite {x y : EReal} (h : (x = ⊤ ∨ x = ⊥) ∨ (y = ⊤ ∨ y = ⊥)) : x - y = ⊤ ∨ x - y = ⊥ := by
  induction x <;> induction y <;> simp_all

/-- `⊤` times a positive real is `⊤`. -/
theorem top_mul_pos {r : ℝ} (h : 0 < r) : (⊤ : EReal) * (r : EReal) = ⊤ := EReal.top_mul_coe_of_pos h

/-- The expanded squared distance, term by term over the reals. -/
theorem expand_real {n : ℕ} (a b : Fin n → ℝ) :
    ∑ k, b k * (a k * (1 / 32)) - (∑ k, b k * b k) * (1 / 64) - (∑ k, a k * a k) * (1 / 64)
      = (-∑ k, (a k - b k) * (a k - b k)) * (1 / 64) := by
  rw [Finset.sum_mul, Finset.sum_mul, ← Finset.sum_sub_distrib, ← Finset.sum_sub_distrib, ← Finset.sum_neg_distrib,
    Finset.sum_mul]
  exact Finset.sum_congr rfl fun k _ => by ring

/-- A finite sum of reals, read as extended reals. -/
theorem coe_sum {n : ℕ} (a : Fin n → ℝ) : ((∑ k, a k : ℝ) : EReal) = ∑ k, (a k : EReal) := by
  induction n with
  | zero => simp
  | succ n ih => rw [Fin.sum_univ_castSucc, Fin.sum_univ_castSucc, EReal.coe_add, ih]

/-- THE EXPANSION, over the extended reals: `Σ q·(p/32) − (Σ q²)/64 − (Σ p²)/64 = −(Σ (p − q)²)/64`. Where all entries
    are finite it is the identity of the reals; where one is not, both sides are `⊥`. -/
theorem expand {n : ℕ} (p q : Fin n → EReal) :
    ∑ k, q k * (p k * ((1 / 32 : ℝ) : EReal)) - (∑ k, q k * q k) * ((1 / 64 : ℝ) : EReal)
        - (∑ k, p k * p k) * ((1 / 64 : ℝ) : EReal)
      = Ideal.div (-∑ k, (p k - q k) * (p k - q k)) ((64 : ℝ) : EReal) := by
  rw [Ideal.div_coe (by norm_num)]
  have h64 : (0 : ℝ) < 1 / 64 := by norm_num
  by_cases h : ∃ k, (p k = ⊤ ∨ p k = ⊥) ∨ (q k = ⊤ ∨ q k = ⊥)
  · obtain ⟨k, hk⟩ := h
    rw [sum_sq_top (fun i => p i - q i) (sub_infinite hk), EReal.neg_top, EReal.bot_mul_coe_of_pos h64]
    rcases hk with hk | hk
    · rw [sum_sq_top p hk, top_mul_pos h64, EReal.sub_top]
    · rw [sum_sq_top q hk, top_mul_pos h64, EReal.sub_top, EReal.bot_sub]
  · push Not at h
    have hp : ∀ k, ((p k).toReal : EReal) = p k := fun k => EReal.coe_toReal (h k).1.1 (h k).1.2
    have hq : ∀ k, ((q k).toReal : EReal) = q k := fun k => EReal.coe_toReal (h k).2.1 (h k).2.2
    have := congrArg ((↑) : ℝ → EReal) (expand_real (fun k => (p k).toReal) (fun k => (q k).toReal))
    simpa only [EReal.coe_sub, EReal.coe_neg, EReal.coe_mul, coe_sum, hp, hq] using this

/-- A sum over 640 columns is the sum over 128 lanes of the five columns 128 apart that share a lane. -/
theorem sum_lanes (f : Fin 640 → EReal) :
    ∑ l : Fin 128, (f ⟨l, by omega⟩ + f ⟨128 + l, by omega⟩ + f ⟨256 + l, by omega⟩ + f ⟨384 + l, by omega⟩
        + f ⟨512 + l, by omega⟩) = ∑ k, f k := by
  rw [← Equiv.sum_comp (finProdFinEquiv (m := 5) (n := 128)) f, Fintype.sum_prod_type_right]
  refine Finset.sum_congr rfl fun l _ => ?_
  rw [Fin.sum_univ_five]
  have e (a : Fin 5) (x : Fin 640) (hx : (x : ℕ) = 128 * a + l) : f x = f (finProdFinEquiv (a, l)) :=
    congrArg f (Fin.ext (by rw [hx, finProdFinEquiv_apply_val, add_comm]))
  rw [e 0 ⟨l, by omega⟩ (by simp), e 1 ⟨128 + l, by omega⟩ (by simp), e 2 ⟨256 + l, by omega⟩ (by simp),
    e 3 ⟨384 + l, by omega⟩ (by simp), e 4 ⟨512 + l, by omega⟩ (by simp)]

end Cert.Distance

end
-- ==== Proof.Consts.lean ====
/- The float constants that the two programs spell, as the extended reals they denote. -/
module

public import Idealize.ShloMosaic.PureOps.Ideal

@[expose] public section

noncomputable section

namespace Cert.Consts

open Idealize.ShloMosaic

/-- The number of shots, which the reference divides by. -/
theorem word_5 : Ideal.ofBits .f32 0x40A00000#32 = ((5 : ℝ) : EReal) := by
  simp [Ideal.ofBits, Ideal.ieee, -EReal.coe_mul]; norm_num

/-- The temperature, which the reference divides by. -/
theorem word_64 : Ideal.ofBits .f32 0x42800000#32 = ((64 : ℝ) : EReal) := by
  simp [Ideal.ofBits, Ideal.ieee, -EReal.coe_mul]; norm_num

/-- The kernel's factor of both squared norms: one over the temperature. -/
theorem word_inv_64 : Ideal.ofBits .f32 0x3C800000#32 = ((1 / 64 : ℝ) : EReal) := by
  simp [Ideal.ofBits, Ideal.ieee, -EReal.coe_mul]; norm_num

/-- The kernel's factor of the prototypes in its product: two over the temperature. -/
theorem word_inv_32 : Ideal.ofBits .f32 0x3D000000#32 = ((1 / 32 : ℝ) : EReal) := by
  simp [Ideal.ofBits, Ideal.ieee, -EReal.coe_mul]; norm_num

end Cert.Consts

end
-- ==== Proof.Reference.lean ====
/- What the reference computes: its result, the composed term of its host operations, read at one query and one class. -/
module

public import proofs.«01_k».proof.Proof.Consts
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Logit

/-- The logit of one query for one class: minus the squared distance of the query's embedding `q` to the mean of the
    class's five support embeddings `s`, over the temperature 64. -/
def logit (s : Fin 5 → Fin 640 → EReal) (q : Fin 640 → EReal) : EReal :=
  Ideal.div
    (-∑ k, (Ideal.div (∑ r, s r k) ((5 : ℝ) : EReal) - q k) * (Ideal.div (∑ r, s r k) ((5 : ℝ) : EReal) - q k))
    ((64 : ℝ) : EReal)

end Cert.Logit

namespace Cert.ReferenceIdeal.Logits

open Cert.ReferenceIdeal Cert.ReferenceIdeal.Gen Cert.Logit

/-- The class means of the support embeddings. -/
def means (s : FVec Ideal S1x5x64x640 .f32) : FVec Ideal S1x64x640 .f32 :=
  Host.divf (Host.reduceAdd s (constant S_ .f32 0x00000000#32) reducesTo_S1x5x64x640_S1x64x640_d1 h_S_)
    (broadcastInDim S1x64x640 ![] bcast_S_S1x64x640 (constant S_ .f32 0x40A00000#32))

/-- Every class mean minus every query: entry `(i, j, k)` is coordinate `k` of class mean `j` minus that of query `i`. -/
def differences (s : FVec Ideal S1x5x64x640 .f32) (q : FVec Ideal S1x15x64x640 .f32) : FVec Ideal S960x64x640 .f32 :=
  subf
    (shapeCast _
      (broadcastInDim S1x960x64x640 ![0, 1, 2, 3] bcast_S1x1x64x640_S1x960x64x640_0_1_2_3
        (broadcastInDim S1x1x64x640 ![0, 2, 3] bcast_S1x64x640_S1x1x64x640_0_2_3 (means s)))
      shapeCasts_S1x960x64x640_S960x64x640)
    (broadcastInDim S960x64x640 ![0, 1, 2] bcast_S960x1x640_S960x64x640_0_1_2
      (broadcastInDim S960x1x640 ![0, 2] bcast_S960x640_S960x1x640_0_2
        (shapeCast _ q shapeCasts_S1x15x64x640_S960x640)))

/-- The reference's result as a function of its two arguments. -/
def result (s : FVec Ideal S1x5x64x640 .f32) (q : FVec Ideal S1x15x64x640 .f32) : FVec Ideal S960x64 .f32 :=
  Host.divf
    (Host.negf
      (Host.reduceAdd (mulf (differences s q) (differences s q)) (constant S_ .f32 0x00000000#32)
        reducesTo_S960x64x640_S960x64_d2 h_S_))
    (broadcastInDim S960x64 ![] bcast_S_S960x64 (constant S_ .f32 0x42800000#32))

/-- At query `i` and class `j` the reference's result is their logit. Query `i` of the 960 is query `i % 64` of shot
    `i / 64`. -/
theorem result_at (s : FVec Ideal S1x5x64x640 .f32) (q : FVec Ideal S1x15x64x640 .f32) (i : Fin 960) (j : Fin 64) :
    result s q (ix2 i j)
      = logit (fun r k => s (ix4 0 r j k)) (fun k => q (ix4 0 ⟨i / 64, by omega⟩ ⟨i % 64, by omega⟩ k)) := by
  pointwise [result, differences, means, logit]
  simp only [Cert.Consts.word_5, Cert.Consts.word_64]

/-- The reference's run: its result array ends at `result` of the arguments, and the arguments end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Cert.ReferenceIdeal.Logits

end
-- ==== Proof.Block.lean ====
/- What one grid point of the kernel computes: the payload it stores, read at one query of its block and one class. -/
module

public import proofs.«01_k».proof.Proof.Distance
public import proofs.«01_k».proof.Proof.Reference
public import proofs.«01_k».proof.Proof.Gen.KernelIdeal.Skeleton
public import Idealize.ShloMosaic.PureOps.IdealRules
public import Idealize.ShloMosaic.Lib.Pointwise

@[expose] public section

set_option maxRecDepth 16384

noncomputable section

open Idealize.ShloMosaic Idealize.ShloMosaic.TcCoe Idealize.SL.Sem

namespace Cert.KernelIdeal.Block

open Cert.KernelIdeal Cert.KernelIdeal.Gen Cert.Logit

/-- The kernel's named factor of the shots' sum is one fifth. -/
theorem inv_shots :
    Named.named (F := Ideal) κ "inv_shots" (φ := .f32) 0x3E4CCCCD#32 = (((5 : ℝ)⁻¹ : ℝ) : EReal) :=
  IdealRules.named_const.ideal_named_scalar _ _ _ _ rfl

/-- Query `i` of the block and class `j`: the expanded square that the body stores is their logit. -/
theorem pay_at (s : FVec Ideal S5x64x640 .f32) (q : FVec Ideal S480x640 .f32) (i : Fin 480) (j : Fin 64) :
    k0_pay1 (F := Ideal) s q (ix2 i j) = logit (fun r k => s (ix3 r j k)) (fun k => q (ix2 i k)) := by
  pointwise [k0_pay1]
  rw [inv_shots, Cert.Consts.word_inv_64, Cert.Consts.word_inv_32,
    Cert.Distance.sum_lanes fun k => q (ix2 i k) * q (ix2 i k),
    Cert.Distance.expand (fun k => (∑ r, s (ix3 r j k)) * (((5 : ℝ)⁻¹ : ℝ) : EReal)) fun k => q (ix2 i k)]
  simp only [logit, Ideal.div_coe (show (5 : ℝ) ≠ 0 by norm_num), one_div]

end Cert.KernelIdeal.Block

end
-- ==== Proof.Array.lean ====
/- What the kernel's result array holds after the run: the reference's result of the kernel's arguments. -/
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Logit

variable (m : (ℓ : Loc nD τ sig) → Buf (Elt Ideal) ℓ)

/-- The windows' block indices at point `t`: the whole support, and block `t` of the queries and of the result. -/
theorem idx : ∀ t : Fin cfg0.N, win0_0.index t = ![0, 0, 0] ∧ win0_1.index t = ![t.val, 0]
    ∧ win0_2.index t = ![t.val, 0] ∧ t.val < 2 :=
  (by decide +kernel : ∀ t : Fin grid0.N, _)

/-- What the reference computes of the kernel's arguments on device `c`. -/
abbrev value (c : Dev nD) : FVec Ideal Cert.ReferenceIdeal.S960x64 .f32 :=
  Cert.ReferenceIdeal.Logits.result (m ((c : Thread nD τ).loc main_arg0)) (m ((c : Thread nD τ).loc main_arg1))

/-- What point `t` stores at an index of its block is the reference's result at the index of the array it stands for. -/
theorem point (c : Dev nD) (t : Fin cfg0.N) (y : S480x64.Idx) :
    k0_pay1 (F := Ideal) (iblk m c 0 t) (iblk m c 1 t) y = value m c (((cfg0.win 2).blk t).view.emb y) := by
  idx_vars y
  rw [Block.pay_at]
  unfold value
  pointwise [logit, Cert.ReferenceIdeal.Logits.result, Cert.ReferenceIdeal.Logits.differences,
    Cert.ReferenceIdeal.Logits.means, Cert.Consts.word_5, Cert.Consts.word_64]
  blk_point [iblk, V, idx t]

/-- The two blocks tile the result array, so it ends at the reference's result. -/
theorem final (c : Dev nD) : (dats m 0 c).arrAt 2 (cfgs 0).N = value m c := by
  refine (dats m 0 c).arrAt_eq_of_covers 2 _ (by decide +kernel) fun t _ y => ?_
  blk_simp
  rw [after0_2]; frame_out
  exact point m c t y

end Cert.KernelIdeal.Array

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates, leaves its arguments as they were, and has no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Logits.run m g)

/-- The one constant that the idealization names: the kernel's f32 literal for 1/5. -/
theorem preserves : Cert.preserves_Kernel_KernelIdeal :=
  IdealRules.named_const.statement Cert.KernelIdeal.κ "inv_shots" .f32 0x3E4CCCCD#32 (((5 : ℝ)⁻¹ : ℝ) : EReal) rfl

/-- From arguments that agree, kernel and reference end with the same logits over the extended reals. -/
theorem algebraic : Cert.algebraic_KernelIdeal_ReferenceIdeal := by
  intro m g m' g' _ hagree
  refine ⟨fun c => Cert.KernelIdeal.Array.value m c, ?_, ?_⟩
  · exact (θ_run Cert.KernelIdeal.defs _ _).mono
      (fun _ h c => ⟨(h c).1.trans (Cert.KernelIdeal.Array.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Logits.run m' g')
    rw [(hagree c).1, (hagree c).2]

/-- Every claim of the certificate. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, preserves,
    algebraic⟩

end Cert.Proof

end
